-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4096x100x64 : Shape := ⟨3, ![4096, 100, 64]⟩
abbrev S1x64x64 : Shape := ⟨3, ![1, 64, 64]⟩
abbrev S64x64 : Shape := ⟨2, ![64, 64]⟩
abbrev S64 : Shape := ⟨1, ![64]⟩
abbrev S1x1x64 : Shape := ⟨3, ![1, 1, 64]⟩
abbrev S4096x64x64 : Shape := ⟨3, ![4096, 64, 64]⟩
abbrev S4096x64x100 : Shape := ⟨3, ![4096, 64, 100]⟩
abbrev S_ : Shape := ⟨0, ![]⟩
abbrev S4096x64x9 : Shape := ⟨3, ![4096, 64, 9]⟩
abbrev S4096x64x8 : Shape := ⟨3, ![4096, 64, 8]⟩

class Facts : Prop where
  bcast_S64_S1x1x64_2 : S64.BroadcastsInDim S1x1x64 (![2] : Fin 1 → Fin S1x1x64.rank)
  bcast_S1x1x64_S4096x100x64_0_1_2 : S1x1x64.BroadcastsInDim S4096x100x64 (![0, 1, 2] : Fin 3 → Fin S4096x100x64.rank)
  bcast_S1x64x64_S4096x64x64_0_1_2 : S1x64x64.BroadcastsInDim S4096x64x64 (![0, 1, 2] : Fin 3 → Fin S4096x64x64.rank)
  bcast_S_S4096x64x100 : S_.BroadcastsInDim S4096x64x100 (![] : Fin 0 → Fin S4096x64x100.rank)
  sliceFits_S4096x64x100_S4096x64x9 : S4096x64x100.Slices (fun _ => 0) S4096x64x9
  slices_S4096x64x9_S4096x64x8_0_0_0 : S4096x64x9.Slices ![0, 0, 0] S4096x64x8
  slices_S4096x64x9_S4096x64x8_0_0_1 : S4096x64x9.Slices ![0, 0, 1] S4096x64x8
  bcast_S_S4096x100x64 : S_.BroadcastsInDim S4096x100x64 (![] : Fin 0 → Fin S4096x100x64.rank)
  dot_S4096x100x64_S64x64_S4096x100x64_2_0_01_1_n_n_wf : DotDims.WF S4096x100x64 S64x64 S4096x100x64 [2] [0] [0, 1] [1] [] []
  dot_S4096x64x64_S4096x100x64_S4096x64x100_2_2_1_1_0_0_wf : DotDims.WF S4096x64x64 S4096x100x64 S4096x64x100 [2] [2] [1] [1] [0] [0]

variable [Facts]

def dot_S4096x100x64_S64x64_S4096x100x64_2_0_01_1_n_n : DotDims S4096x100x64 S64x64 S4096x100x64 where
  lhsContracting := [2]
  rhsContracting := [0]
  lhsNonContracting := [0, 1]
  rhsNonContracting := [1]
  lhsBatch := []
  rhsBatch := []
  wf := dot_S4096x100x64_S64x64_S4096x100x64_2_0_01_1_n_n_wf
def dot_S4096x64x64_S4096x100x64_S4096x64x100_2_2_1_1_0_0 : DotDims S4096x64x64 S4096x100x64 S4096x64x100 where
  lhsContracting := [2]
  rhsContracting := [2]
  lhsNonContracting := [1]
  rhsNonContracting := [1]
  lhsBatch := [0]
  rhsBatch := [0]
  wf := dot_S4096x64x64_S4096x100x64_S4096x64x100_2_2_1_1_0_0_wf
def fn_relu {F : FTy → Type} [FloatOps F] (arg0 : FVec F S4096x100x64 .f32) : FVec F S4096x100x64 .f32 :=
  let cst : FVec F S_ .f32 := constant S_ .f32 0x00000000#32
  let v0 : FVec F S4096x100x64 .f32 := broadcastInDim S4096x100x64 ![] bcast_S_S4096x100x64 cst
  let v1 : FVec F S4096x100x64 .f32 := maximumf arg0 v0
  v1

def fn_part1 {F : FTy → Type} [FloatOps F] (main_v10 : IVec S4096x64x8 1) (main_v18 : FVec F S4096x100x64 .f32) (main_v19 : FVec F S4096x64x64 .f32) : IVec S4096x64x8 1 :=
  let main_v20 : FVec F S4096x64x100 .f32 := (fun l r => Host.dotGeneral dot_S4096x64x64_S4096x100x64_S4096x64x100_2_2_1_1_0_0 none l r) main_v19 main_v18
  let main_cst_1 : FVec F S_ .f32 := constant S_ .f32 0x41000000#32
  let main_v21 : FVec F S4096x64x100 .f32 := broadcastInDim S4096x64x100 ![] bcast_S_S4096x64x100 main_cst_1
  let main_v22 : FVec F S4096x64x100 .f32 := Host.divf main_v20 main_v21
  let main_values_2 : FVec F S4096x64x9 .f32 := (fun x => (Host.topK S4096x64x9 2 (FloatOps.cmpfTotal .gt) x sliceFits_S4096x64x100_S4096x64x9).1) main_v22
  let main_indices_3 : IVec S4096x64x9 32 := (fun x => (Host.topK S4096x64x9 2 (FloatOps.cmpfTotal .gt) x sliceFits_S4096x64x100_S4096x64x9).2) main_v22
  let main_v23 : FVec F S4096x64x8 .f32 := (extractStridedSlice S4096x64x8 ![0, 0, 0] · slices_S4096x64x9_S4096x64x8_0_0_0) main_values_2
  let main_v24 : FVec F S4096x64x8 .f32 := (extractStridedSlice S4096x64x8 ![0, 0, 1] · slices_S4096x64x9_S4096x64x8_0_0_1) main_values_2
  let main_v25 : IVec S4096x64x8 1 := cmpf .ogt main_v23 main_v24
  let main_v26 : IVec S4096x64x8 1 := andi main_v10 main_v25
  main_v26

def fn {F : FTy → Type} [FloatOps F] (main_arg0 : FVec F S4096x100x64 .f32) (main_arg1 : FVec F S1x64x64 .f32) (main_arg2 : FVec F S1x64x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S4096x64x8 1 :=
  let main_v0 : FVec F S4096x100x64 .f32 := (fun l r => Host.dotGeneral dot_S4096x100x64_S64x64_S4096x100x64_2_0_01_1_n_n none l r) main_arg0 main_arg3
  let main_v1 : FVec F S1x1x64 .f32 := broadcastInDim S1x1x64 ![2] bcast_S64_S1x1x64_2 main_arg4
  let main_v2 : FVec F S4096x100x64 .f32 := broadcastInDim S4096x100x64 ![0, 1, 2] bcast_S1x1x64_S4096x100x64_0_1_2 main_v1
  let main_v3 : FVec F S4096x100x64 .f32 := addf main_v0 main_v2
  let main_v4 : FVec F S4096x64x64 .f32 := broadcastInDim S4096x64x64 ![0, 1, 2] bcast_S1x64x64_S4096x64x64_0_1_2 main_arg1
  let main_v5 : FVec F S4096x64x100 .f32 := (fun l r => Host.dotGeneral dot_S4096x64x64_S4096x100x64_S4096x64x100_2_2_1_1_0_0 none l r) main_v4 main_v3
  let main_cst : FVec F S_ .f32 := constant S_ .f32 0x41000000#32
  let main_v6 : FVec F S4096x64x100 .f32 := broadcastInDim S4096x64x100 ![] bcast_S_S4096x64x100 main_cst
  let main_v7 : FVec F S4096x64x100 .f32 := Host.divf main_v5 main_v6
  let main_values : FVec F S4096x64x9 .f32 := (fun x => (Host.topK S4096x64x9 2 (FloatOps.cmpfTotal .gt) x sliceFits_S4096x64x100_S4096x64x9).1) main_v7
  let main_indices : IVec S4096x64x9 32 := (fun x => (Host.topK S4096x64x9 2 (FloatOps.cmpfTotal .gt) x sliceFits_S4096x64x100_S4096x64x9).2) main_v7
  let main_v8 : FVec F S4096x64x8 .f32 := (extractStridedSlice S4096x64x8 ![0, 0, 0] · slices_S4096x64x9_S4096x64x8_0_0_0) main_values
  let main_v9 : FVec F S4096x64x8 .f32 := (extractStridedSlice S4096x64x8 ![0, 0, 1] · slices_S4096x64x9_S4096x64x8_0_0_1) main_values
  let main_v10 : IVec S4096x64x8 1 := cmpf .ogt main_v8 main_v9
  let main_v11 : FVec F S4096x100x64 .f32 := fn_relu (F := F) main_arg0
  let main_cst_0 : FVec F S_ .f32 := constant S_ .f32 0x3727C5AC#32
  let main_v12 : FVec F S4096x100x64 .f32 := broadcastInDim S4096x100x64 ![] bcast_S_S4096x100x64 main_cst_0
  let main_v13 : FVec F S4096x100x64 .f32 := addf main_v11 main_v12
  let main_v14 : FVec F S4096x100x64 .f32 := Host.log main_v13
  let main_v15 : FVec F S4096x100x64 .f32 := (fun l r => Host.dotGeneral dot_S4096x100x64_S64x64_S4096x100x64_2_0_01_1_n_n none l r) main_v14 main_arg7
  let main_v16 : FVec F S1x1x64 .f32 := broadcastInDim S1x1x64 ![2] bcast_S64_S1x1x64_2 main_arg8
  let main_v17 : FVec F S4096x100x64 .f32 := broadcastInDim S4096x100x64 ![0, 1, 2] bcast_S1x1x64_S4096x100x64_0_1_2 main_v16
  let main_v18 : FVec F S4096x100x64 .f32 := addf main_v15 main_v17
  let main_v19 : FVec F S4096x64x64 .f32 := broadcastInDim S4096x64x64 ![0, 1, 2] bcast_S1x64x64_S4096x64x64_0_1_2 main_arg2
  fn_part1 (F := F) main_v10 main_v18 main_v19
-- ==== Kernel.lean ====
abbrev S4096x100x64 : Shape := ⟨3, ![4096, 100, 64]⟩
abbrev S1x64x64 : Shape := ⟨3, ![1, 64, 64]⟩
abbrev S64x64 : Shape := ⟨2, ![64, 64]⟩
abbrev S64 : Shape := ⟨1, ![64]⟩
abbrev S1x64 : Shape := ⟨2, ![1, 64]⟩
abbrev S4096x128x64 : Shape := ⟨3, ![4096, 128, 64]⟩
abbrev S128x100x64 : Shape := ⟨3, ![128, 100, 64]⟩
abbrev S128x128x64 : Shape := ⟨3, ![128, 128, 64]⟩
abbrev S12800x64 : Shape := ⟨2, ![12800, 64]⟩
abbrev S128x64x64 : Shape := ⟨3, ![128, 64, 64]⟩
abbrev S128x64x100 : Shape := ⟨3, ![128, 64, 100]⟩
abbrev S128x64 : Shape := ⟨2, ![128, 64]⟩
abbrev S128x64x1 : Shape := ⟨3, ![128, 64, 1]⟩

abbrev nBuf : Space → Nat
  | .hbm => 18
  | .vmem => 14
  | .smem => 0
  | _ => 0

abbrev bufTy : (tb : Table) → Fin (tcTables nBuf tb) → BufTy
  | .hbm, ⟨0, _⟩ => ⟨S4096x100x64, .f32⟩
  | .hbm, ⟨1, _⟩ => ⟨S1x64x64, .f32⟩
  | .hbm, ⟨2, _⟩ => ⟨S1x64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S4096x128x64, .f32⟩
  | .local _ .vmem, ⟨0, _⟩ => ⟨S128x100x64, .f32⟩
  | .local _ .vmem, ⟨1, _⟩ => ⟨S128x100x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S128x128x64, .f32⟩
  | .local _ .vmem, ⟨13, _⟩ => ⟨S128x128x64, .f32⟩
  | _, _ => ⟨S4096x100x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x100x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S4096x100x64 : Shape := ⟨3, ![4096, 100, 64]⟩
abbrev S1x64x64 : Shape := ⟨3, ![1, 64, 64]⟩
abbrev S64x64 : Shape := ⟨2, ![64, 64]⟩
abbrev S64 : Shape := ⟨1, ![64]⟩
abbrev S1x1x64 : Shape := ⟨3, ![1, 1, 64]⟩
abbrev S4096x64x64 : Shape := ⟨3, ![4096, 64, 64]⟩
abbrev S4096x64x100 : Shape := ⟨3, ![4096, 64, 100]⟩
abbrev S_ : Shape := ⟨0, ![]⟩
abbrev S4096x64x8 : Shape := ⟨3, ![4096, 64, 8]⟩
abbrev S4096 : Shape := ⟨1, ![4096]⟩
abbrev S4096x1x1 : Shape := ⟨3, ![4096, 1, 1]⟩
abbrev S1x64x1 : Shape := ⟨3, ![1, 64, 1]⟩
abbrev S4096x64x8x1 : Shape := ⟨4, ![4096, 64, 8, 1]⟩
abbrev S4096x64x8x3 : Shape := ⟨4, ![4096, 64, 8, 3]⟩
abbrev S4096x64 : Shape := ⟨2, ![4096, 64]⟩
abbrev S4096x64x1 : Shape := ⟨3, ![4096, 64, 1]⟩
abbrev S4096x128x64 : Shape := ⟨3, ![4096, 128, 64]⟩

abbrev nBuf : Space → Nat
  | .hbm => 169
  | .vmem => 0
  | .smem => 0
  | _ => 0

abbrev hbmTy0_0 (i : Nat) : BufTy := match i % 128 with
  | 0 => ⟨S4096x100x64, .f32⟩
  | 1 => ⟨S1x64x64, .f32⟩
  | 2 => ⟨S1x64x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S4096x100x64, .f32⟩
  | 12 => ⟨S1x1x64, .f32⟩
  | 13 => ⟨S4096x100x64, .f32⟩
  | 14 => ⟨S4096x100x64, .f32⟩
  | 15 => ⟨S4096x100x64, .f32⟩
  | 16 => ⟨S1x1x64, .f32⟩
  | 17 => ⟨S4096x100x64, .f32⟩
  | 18 => ⟨S4096x100x64, .f32⟩
  | 19 => ⟨S4096x64x64, .f32⟩
  | 20 => ⟨S4096x64x100, .f32⟩
  | 21 => ⟨S_, .f32⟩
  | 22 => ⟨S4096x64x100, .f32⟩
  | 23 => ⟨S4096x64x100, .f32⟩
  | 24 => ⟨S4096x64x8, .f32⟩
  | 25 => ⟨S4096x64x8, .i32⟩
  | 26 => ⟨S4096, .i32⟩
  | 27 => ⟨S4096x1x1, .i32⟩
  | 28 => ⟨S64, .i32⟩
  | 29 => ⟨S1x64x1, .i32⟩
  | 30 => ⟨S_, .f32⟩
  | 31 => ⟨S4096x64x100, .f32⟩
  | 32 => ⟨S_, .i32⟩
  | 33 => ⟨S4096x1x1, .i32⟩
  | 34 => ⟨S4096x1x1, .i1⟩
  | 35 => ⟨S_, .i32⟩
  | 36 => ⟨S4096x1x1, .i32⟩
  | 37 => ⟨S4096x1x1, .i32⟩
  | 38 => ⟨S4096x1x1, .i32⟩
  | 39 => ⟨S_, .i32⟩
  | 40 => ⟨S1x64x1, .i32⟩
  | 41 => ⟨S1x64x1, .i1⟩
  | 42 => ⟨S_, .i32⟩
  | 43 => ⟨S1x64x1, .i32⟩
  | 44 => ⟨S1x64x1, .i32⟩
  | 45 => ⟨S1x64x1, .i32⟩
  | 46 => ⟨S_, .i32⟩
  | 47 => ⟨S4096x64x8, .i32⟩
  | 48 => ⟨S4096x64x8, .i1⟩
  | 49 => ⟨S_, .i32⟩
  | 50 => ⟨S4096x64x8, .i32⟩
  | 51 => ⟨S4096x64x8, .i32⟩
  | 52 => ⟨S4096x64x8, .i32⟩
  | 53 => ⟨S4096x64x8, .i32⟩
  | 54 => ⟨S4096x64x8, .i32⟩
  | 55 => ⟨S4096x64x8x1, .i32⟩
  | 56 => ⟨S4096x64x8x1, .i32⟩
  | 57 => ⟨S4096x64x8x1, .i32⟩
  | 58 => ⟨S4096x64x8x3, .i32⟩
  | 59 => ⟨S_, .f32⟩
  | 60 => ⟨S4096x64x8, .f32⟩
  | 61 => ⟨S4096x64x100, .f32⟩
  | 62 => ⟨S_, .f32⟩
  | 63 => ⟨S4096x64x100, .f32⟩
  | 64 => ⟨S4096x64x100, .i1⟩
  | 65 => ⟨S_, .f32⟩
  | 66 => ⟨S_, .f32⟩
  | 67 => ⟨S4096x64x100, .f32⟩
  | 68 => ⟨S4096x64x100, .f32⟩
  | 69 => ⟨S_, .f32⟩
  | 70 => ⟨S4096x64, .f32⟩
  | 71 => ⟨S_, .f32⟩
  | 72 => ⟨S4096x64, .f32⟩
  | 73 => ⟨S4096x64, .f32⟩
  | 74 => ⟨S4096x64x1, .f32⟩
  | 75 => ⟨S4096x64x100, .f32⟩
  | 76 => ⟨S4096x64x100, .f32⟩
  | 77 => ⟨S4096x64x100, .f32⟩
  | 78 => ⟨S_, .f32⟩
  | 79 => ⟨S4096x64, .f32⟩
  | 80 => ⟨S4096x64x1, .f32⟩
  | 81 => ⟨S4096x64x100, .f32⟩
  | 82 => ⟨S4096x64x100, .f32⟩
  | 83 => ⟨S4096x64x64, .f32⟩
  | 84 => ⟨S_, .f32⟩
  | 85 => ⟨S4096x100x64, .f32⟩
  | 86 => ⟨S4096x100x64, .f32⟩
  | 87 => ⟨S_, .f32⟩
  | 88 => ⟨S4096x100x64, .f32⟩
  | 89 => ⟨S4096x100x64, .f32⟩
  | 90 => ⟨S4096x100x64, .f32⟩
  | 91 => ⟨S4096x100x64, .f32⟩
  | 92 => ⟨S1x1x64, .f32⟩
  | 93 => ⟨S4096x100x64, .f32⟩
  | 94 => ⟨S4096x100x64, .f32⟩
  | 95 => ⟨S4096x100x64, .f32⟩
  | 96 => ⟨S1x1x64, .f32⟩
  | 97 => ⟨S4096x100x64, .f32⟩
  | 98 => ⟨S4096x100x64, .f32⟩
  | 99 => ⟨S4096x64x64, .f32⟩
  | 100 => ⟨S4096x64x100, .f32⟩
  | 101 => ⟨S_, .f32⟩
  | 102 => ⟨S4096x64x100, .f32⟩
  | 103 => ⟨S4096x64x100, .f32⟩
  | 104 => ⟨S4096x64x8, .f32⟩
  | 105 => ⟨S4096x64x8, .i32⟩
  | 106 => ⟨S4096, .i32⟩
  | 107 => ⟨S4096x1x1, .i32⟩
  | 108 => ⟨S64, .i32⟩
  | 109 => ⟨S1x64x1, .i32⟩
  | 110 => ⟨S_, .f32⟩
  | 111 => ⟨S4096x64x100, .f32⟩
  | 112 => ⟨S_, .i32⟩
  | 113 => ⟨S4096x1x1, .i32⟩
  | 114 => ⟨S4096x1x1, .i1⟩
  | 115 => ⟨S_, .i32⟩
  | 116 => ⟨S4096x1x1, .i32⟩
  | 117 => ⟨S4096x1x1, .i32⟩
  | 118 => ⟨S4096x1x1, .i32⟩
  | 119 => ⟨S_, .i32⟩
  | 120 => ⟨S1x64x1, .i32⟩
  | 121 => ⟨S1x64x1, .i1⟩
  | 122 => ⟨S_, .i32⟩
  | 123 => ⟨S1x64x1, .i32⟩
  | 124 => ⟨S1x64x1, .i32⟩
  | 125 => ⟨S1x64x1, .i32⟩
  | 126 => ⟨S_, .i32⟩
  | 127 => ⟨S4096x64x8, .i32⟩
  | _ => ⟨S4096x100x64, .f32⟩

abbrev hbmTy0_1 (i : Nat) : BufTy := match i % 128 with
  | 0 => ⟨S4096x64x8, .i1⟩
  | 1 => ⟨S_, .i32⟩
  | 2 => ⟨S4096x64x8, .i32⟩
  | 3 => ⟨S4096x64x8, .i32⟩
  | 4 => ⟨S4096x64x8, .i32⟩
  | 5 => ⟨S4096x64x8, .i32⟩
  | 6 => ⟨S4096x64x8, .i32⟩
  | 7 => ⟨S4096x64x8x1, .i32⟩
  | 8 => ⟨S4096x64x8x1, .i32⟩
  | 9 => ⟨S4096x64x8x1, .i32⟩
  | 10 => ⟨S4096x64x8x3, .i32⟩
  | 11 => ⟨S_, .f32⟩
  | 12 => ⟨S4096x64x8, .f32⟩
  | 13 => ⟨S4096x64x100, .f32⟩
  | 14 => ⟨S_, .f32⟩
  | 15 => ⟨S4096x64x100, .f32⟩
  | 16 => ⟨S4096x64x100, .i1⟩
  | 17 => ⟨S_, .f32⟩
  | 18 => ⟨S_, .f32⟩
  | 19 => ⟨S4096x64x100, .f32⟩
  | 20 => ⟨S4096x64x100, .f32⟩
  | 21 => ⟨S_, .f32⟩
  | 22 => ⟨S4096x64, .f32⟩
  | 23 => ⟨S_, .f32⟩
  | 24 => ⟨S4096x64, .f32⟩
  | 25 => ⟨S4096x64, .f32⟩
  | 26 => ⟨S4096x64x1, .f32⟩
  | 27 => ⟨S4096x64x100, .f32⟩
  | 28 => ⟨S4096x64x100, .f32⟩
  | 29 => ⟨S4096x64x100, .f32⟩
  | 30 => ⟨S_, .f32⟩
  | 31 => ⟨S4096x64, .f32⟩
  | 32 => ⟨S4096x64x1, .f32⟩
  | 33 => ⟨S4096x64x100, .f32⟩
  | 34 => ⟨S4096x64x100, .f32⟩
  | 35 => ⟨S4096x64x64, .f32⟩
  | 36 => ⟨S_, .f32⟩
  | 37 => ⟨S4096x64x64, .f32⟩
  | 38 => ⟨S4096x64x64, .f32⟩
  | 39 => ⟨S4096x64x64, .f32⟩
  | 40 => ⟨S4096x128x64, .f32⟩
  | _ => ⟨S4096x100x64, .f32⟩

abbrev hbmTy (i : Nat) : BufTy := match i / 128 with
  | 0 => hbmTy0_0 i
  | 1 => hbmTy0_1 i
  | _ => ⟨S4096x100x64, .f32⟩

abbrev bufTy : (tb : Table) → Fin (tcTables nBuf tb) → BufTy
  | .hbm, ⟨i, _⟩ => hbmTy i
  | _, _ => ⟨S4096x100x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_values : Ref sig .tc := ⟨.hbm, 24, rfl⟩
abbrev main_indices : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_call0_v0 : Ref sig .tc := ⟨.hbm, 66, rfl⟩
abbrev main_call0_v1 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_values_14 : Ref sig .tc := ⟨.hbm, 104, rfl⟩
abbrev main_indices_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_c_17 : Ref sig .tc := ⟨.hbm, 112, rfl⟩
abbrev main_v76 : Ref sig .tc := ⟨.hbm, 113, rfl⟩
abbrev main_v77 : Ref sig .tc := ⟨.hbm, 114, rfl⟩
abbrev main_c_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_19 : Ref sig .tc := ⟨.hbm, 119, rfl⟩
abbrev main_v81 : Ref sig .tc := ⟨.hbm, 120, rfl⟩
abbrev main_v82 : Ref sig .tc := ⟨.hbm, 121, rfl⟩
abbrev main_c_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_21 : Ref sig .tc := ⟨.hbm, 126, rfl⟩
abbrev main_v86 : Ref sig .tc := ⟨.hbm, 127, rfl⟩
abbrev main_v87 : Ref sig .tc := ⟨.hbm, 128, rfl⟩
abbrev main_c_22 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_23 : Ref sig .tc := ⟨.hbm, 139, rfl⟩
abbrev main_v97 : Ref sig .tc := ⟨.hbm, 140, rfl⟩
abbrev main_v98 : Ref sig .tc := ⟨.hbm, 141, rfl⟩
abbrev main_cst_24 : Ref sig .tc := ⟨.hbm, 142, rfl⟩
abbrev main_v99 : Ref sig .tc := ⟨.hbm, 143, rfl⟩
abbrev main_v100 : Ref sig .tc := ⟨.hbm, 144, rfl⟩
abbrev main_cst_25 : Ref sig .tc := ⟨.hbm, 145, rfl⟩
abbrev main_call2_v0 : Ref sig .tc := ⟨.hbm, 146, rfl⟩
abbrev main_call2_v1 : Ref sig .tc := ⟨.hbm, 147, rfl⟩
abbrev main_v101 : Ref sig .tc := ⟨.hbm, 148, rfl⟩
abbrev main_cst_26 : Ref sig .tc := ⟨.hbm, 149, rfl⟩
abbrev main_v102 : Ref sig .tc := ⟨.hbm, 150, rfl⟩
abbrev main_cst_27 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_28 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_29 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]
-- ==== Proof.TopEight.lean ====
/- The mathematics of one row of scores, with no program in sight.

   A row is `a : Fin 100 → EReal`. The kernel finds its eighth greatest entry by repeated maximum: the greatest entry,
   then seven times the greatest entry strictly below the last one found (`threshold a 7`), and keeps the entries that are at
   least that. The reference sorts the positions of the row, greatest entry first, and keeps the first eight positions.
   `Ranked a σ` says what is used of that sort: it lists every position, never goes up, and goes strictly down over the first
   nine places. Under it the two sets are the same (`threshold_le_iff`), and so are the softmax weights over them
   (`soft_eq`). -/
module

public import Idealize.ShloMosaic.PureOps.Ideal
public import Idealize.ShloMosaic.PureOps.Ideal.Laws

@[expose] public section

noncomputable section

namespace Cert.TopEight

open Idealize.ShloMosaic

/-- The greatest entry of a row. -/
def top (a : Fin 100 → EReal) : EReal := Finset.univ.fold max ⊥ fun n => a n

/-- The greatest entry of a row strictly below `t`, `⊥` where there is none. -/
def below (a : Fin 100 → EReal) (t : EReal) : EReal := Finset.univ.fold max ⊥ fun n => if a n < t then a n else ⊥

/-- The greatest entry of a row, then `k` times the greatest strictly below the last. -/
def threshold (a : Fin 100 → EReal) : ℕ → EReal
  | 0 => top a
  | k + 1 => below a (threshold a k)

/-- `σ` lists the positions of the row `a` with the greatest entry first, the first nine entries strictly falling. -/
structure Ranked (a : Fin 100 → EReal) (σ : Fin 100 → Fin 100) : Prop where
  /-- every position is listed -/
  surj : Function.Surjective σ
  /-- a later place never holds a greater entry -/
  le : ∀ i j, i < j → a (σ j) ≤ a (σ i)
  /-- each of the first eight places holds a strictly greater entry than the next -/
  lt : ∀ k (h : k < 8), a (σ ⟨k + 1, by omega⟩) < a (σ ⟨k, by omega⟩)

variable {a : Fin 100 → EReal} {σ : Fin 100 → Fin 100}

/-- A maximum over the row is `v` when `v` is one of the values and no value exceeds it. -/
theorem fold_max_eq (f : Fin 100 → EReal) (v : EReal) (n : Fin 100) (hn : f n = v) (h : ∀ k, f k ≤ v) :
    Finset.univ.fold max ⊥ f = v :=
  le_antisymm (Finset.fold_max_le _ |>.2 ⟨bot_le, fun k _ => h k⟩)
    (Finset.le_fold_max _ |>.2 (.inr ⟨n, Finset.mem_univ n, hn.ge⟩))

theorem Ranked.le' (h : Ranked a σ) {i j : Fin 100} (hij : i ≤ j) : a (σ j) ≤ a (σ i) := by
  rcases hij.eq_or_lt with rfl | hij
  · exact le_rfl
  · exact h.le i j hij

/-- The greatest entry stands at the first place. -/
theorem Ranked.top_eq (h : Ranked a σ) : top a = a (σ 0) :=
  fold_max_eq _ _ (σ 0) rfl fun k => by
    obtain ⟨j, rfl⟩ := h.surj k
    exact h.le' (Fin.zero_le j)

/-- After `k` rounds the threshold is the entry at place `k`, up to the eighth round. -/
theorem Ranked.threshold_eq (h : Ranked a σ) : ∀ k (hk : k < 9), threshold a k = a (σ ⟨k, by omega⟩)
  | 0, _ => h.top_eq
  | k + 1, hk => by
    have hlt := h.lt k (by omega)
    unfold threshold
    rw [h.threshold_eq k (by omega)]
    refine fold_max_eq _ _ (σ ⟨k + 1, by omega⟩) (if_pos hlt) fun n => ?_
    obtain ⟨j, rfl⟩ := h.surj n
    split
    · next hj =>
      refine h.le' ?_
      by_contra hc
      refine absurd hj (not_lt.2 (h.le' ?_))
      rw [Fin.le_def]
      rw [Fin.not_le, Fin.lt_def] at hc
      change j.val ≤ k
      change j.val < k + 1 at hc
      omega
    · exact bot_le

/-- The entries at least the seventh threshold are those at the first eight places. -/
theorem Ranked.threshold_le_iff (h : Ranked a σ) (n : Fin 100) :
    threshold a 7 ≤ a n ↔ ∃ k : Fin 8, σ (k.castLE (by omega)) = n := by
  rw [h.threshold_eq 7 (by omega)]
  constructor
  · intro hn
    obtain ⟨j, rfl⟩ := h.surj n
    by_cases hj : j.val < 8
    · exact ⟨⟨j.val, hj⟩, rfl⟩
    · refine absurd hn (not_le.2 (lt_of_le_of_lt (h.le' ?_) (h.lt 7 (by omega))))
      rw [Fin.le_def]
      change 8 ≤ j.val
      omega
  · rintro ⟨k, rfl⟩
    refine h.le' ?_
    rw [Fin.le_def]
    change k.val ≤ 7
    omega

/-! ## The softmax weights over the kept entries -/

/-- The kernel's unnormalised weight of position `n`: the exponential of its distance from the greatest entry if it is kept, else 0. -/
def kept (a : Fin 100 → EReal) (n : Fin 100) : EReal := if threshold a 7 ≤ a n then Ideal.exp (a n - top a) else 0

/-- A weighted mean of `v` by the unnormalised weights `w`. -/
def mean (w v : Fin 100 → EReal) : EReal := ∑ n, Ideal.div (w n) (∑ k, w k) * v n

/-- The reference's row: an entry outside the first eight places of `σ` replaced by `⊥`. -/
def masked (a : Fin 100 → EReal) (σ : Fin 100 → Fin 100) (n : Fin 100) : EReal :=
  if ∃ k : Fin 8, σ (k.castLE (by omega)) = n then a n else ⊥

/-- The reference's unnormalised weight: the exponential of the masked entry's distance from the greatest masked entry. -/
def soft (a : Fin 100 → EReal) (σ : Fin 100 → Fin 100) (n : Fin 100) : EReal :=
  Ideal.exp (masked a σ n - top (masked a σ))

/-- Masking leaves the greatest entry in place. -/
theorem Ranked.top_masked (h : Ranked a σ) : top (masked a σ) = top a := by
  rw [h.top_eq]
  refine fold_max_eq _ _ (σ 0) (if_pos ⟨0, rfl⟩) fun n => ?_
  unfold masked
  split
  · obtain ⟨j, rfl⟩ := h.surj n
    exact h.le' (Fin.zero_le j)
  · exact bot_le

/-- The two unnormalised weights are equal at every position: where the entry is masked, `⊥` less anything is `⊥`, of exponential 0. -/
theorem Ranked.soft_eq (h : Ranked a σ) : soft a σ = kept a := by
  funext n
  unfold soft kept
  rw [h.top_masked]
  unfold masked
  by_cases hn : threshold a 7 ≤ a n
  · rw [if_pos hn, if_pos ((h.threshold_le_iff n).1 hn)]
  · rw [if_neg hn, if_neg fun c => hn ((h.threshold_le_iff n).2 c), sub_eq_add_neg, EReal.bot_add]
    rfl

end Cert.TopEight

end
-- ==== Proof.Sorted.lean ====
/- The reference's sort of one row of scores.

   `order a` lists the positions of the row `a` with the greatest entry first. The host's top-k of an array of scores holds, along
   each row, the entries at the first places of that order, and the places themselves. Where the first nine entries strictly
   fall, the order is `Ranked` (Proof/TopEight.lean). -/
module

public import proofs.«01_k».proof.Proof.TopEight
public import Idealize.ShloMosaic.Lib.SortFacts
public import Idealize.ShloMosaic.Lib.Pointwise

@[expose] public section

set_option maxRecDepth 16384

noncomputable section

namespace Cert.Sorted

open Idealize.ShloMosaic Cert.TopEight

/-- Whether position `k` is listed before position `k'`: its entry is the greater. -/
def before (a : Fin 100 → EReal) (k k' : Fin 100) : Bool := FloatOps.cmpfTotal (F := Ideal) (φ := .f32) .gt (a k) (a k') == 1#1

theorem before_iff (a : Fin 100 → EReal) (k k' : Fin 100) : before a k k' = true ↔ a k' < a k := by
  unfold before
  change (Ideal.cmp CmpDirection.gt.ordered (a k) (a k') == 1#1) = true ↔ _
  rw [beq_iff_eq]
  change BitVec.ofBool (decide (a k' < a k)) = 1#1 ↔ _
  by_cases h : a k' < a k <;> simp [h]

theorem before_false_iff (a : Fin 100 → EReal) (k k' : Fin 100) : before a k k' = false ↔ a k ≤ a k' := by
  rw [← not_lt, ← before_iff, Bool.not_eq_true]

/-- The positions of a row, the greatest entry first. -/
def order (a : Fin 100 → EReal) : Fin 100 → Fin 100 := sortedFrom (before a)

/-- The order never goes up. -/
theorem order_le (a : Fin 100 → EReal) (i j : Fin 100) (h : i < j) : a (order a j) ≤ a (order a i) := by
  rw [← before_false_iff]
  refine sortedFrom_noInversion (before a) (before a) (fun k k' h => ?_) (fun _ _ h => h) (fun k k' k'' h h' => ?_) i j h
  · rw [before_false_iff]; exact ((before_iff a _ _).1 h).le
  · rw [before_false_iff] at *; exact h.trans h'

/-- Where its first nine entries strictly fall, the order is ranked. -/
theorem ranked (a : Fin 100 → EReal) (h : ∀ k (hk : k < 8), a (order a ⟨k + 1, by omega⟩) < a (order a ⟨k, by omega⟩)) :
    Ranked a (order a) := ⟨sortedFrom_surjective _, order_le a, h⟩

/-! ## The host's top-k of an array of scores -/

/-- An index with its last coordinate replaced. -/
theorem along_last {n₀ n₁ n₂ : ℕ} (b : Fin n₀) (p : Fin n₁) (k k' : Fin n₂) :
    Shape.Idx.along (s := ⟨3, ![n₀, n₁, n₂]⟩) (ix3 b p k) 2 k' = ix3 b p k' := by
  funext i
  fin_cases i <;> rfl

/-- Two arrays sorted together along the last axis, read at an index: one permutation of that row for both. -/
theorem sort2_apply {α β : Type} (cmp : α × β → α × β → BitVec 1) (x : Shape.Idx ⟨3, ![4096, 64, 100]⟩ → α)
    (y : Shape.Idx ⟨3, ![4096, 64, 100]⟩ → β) (b : Fin 4096) (p : Fin 64) (k : Fin 100) (π : Fin 100)
    (hπ : π = sortedFrom (fun k k' => cmp (x (ix3 b p k), y (ix3 b p k)) (x (ix3 b p k'), y (ix3 b p k')) == 1#1) k) :
    (Host.sort2 ⟨3, ![4096, 64, 100]⟩ 2 cmp x y).1 (ix3 b p k) = x (ix3 b p π)
      ∧ (Host.sort2 ⟨3, ![4096, 64, 100]⟩ 2 cmp x y).2 (ix3 b p k) = y (ix3 b p π) := by
  have e : sortedFrom (fun k' k'' => cmp (x (Shape.Idx.along (ix3 b p k) 2 k'), y (Shape.Idx.along (ix3 b p k) 2 k'))
      (x (Shape.Idx.along (ix3 b p k) 2 k''), y (Shape.Idx.along (ix3 b p k) 2 k'')) == 1#1) k = π := by
    rw [hπ]
    exact congrArg (fun R => sortedFrom R k) (funext fun k' => funext fun k'' =>
      congrArg₂ (fun i i' => cmp (x i, y i) (x i', y i') == 1#1) (along_last b p k k') (along_last b p k k''))
  exact ⟨congrArg x ((congrArg (Shape.Idx.along (ix3 b p k) 2) e).trans (along_last b p k π)),
    congrArg y ((congrArg (Shape.Idx.along (ix3 b p k) 2) e).trans (along_last b p k π))⟩

variable {N : ℕ} (hN : N ≤ 100) (a : FVec Ideal ⟨3, ![4096, 64, 100]⟩ .f32)
  (h : Shape.Slices (⟨3, ![4096, 64, 100]⟩ : Shape) (fun _ => 0) ⟨3, ![4096, 64, N]⟩) (b : Fin 4096) (p : Fin 64) (k : Fin N)

/-- A slice at offset zero reads the array at the same index. -/
theorem slice_zero {α : Type} (x : Shape.Idx ⟨3, ![4096, 64, 100]⟩ → α) :
    extractStridedSlice ⟨3, ![4096, 64, N]⟩ (fun _ => 0) x h (ix3 b p k) = x (ix3 b p (k.castLE hN)) := by
  unfold extractStridedSlice
  refine congrArg x (funext fun i => Fin.ext ?_)
  fin_cases i <;> exact Nat.zero_add _

/-- The position of an element on the last axis, as a word. -/
def place (i : Shape.Idx ⟨3, ![4096, 64, 100]⟩) : BitVec 32 := BitVec.ofNat 32 (i 2).val

/-- Two scores in the order of the sort: the greater first. -/
def first (l r : Ideal .f32 × BitVec 32) : BitVec 1 := FloatOps.cmpfTotal .gt l.1 r.1

/-- The top-k is the first places of the array sorted together with its positions. -/
theorem topK_eq : Host.topK ⟨3, ![4096, 64, N]⟩ 2 (FloatOps.cmpfTotal .gt) a h
    = (extractStridedSlice _ (fun _ => 0) (Host.sort2 ⟨3, ![4096, 64, 100]⟩ 2 first a place).1 h,
       extractStridedSlice _ (fun _ => 0) (Host.sort2 ⟨3, ![4096, 64, 100]⟩ 2 first a place).2 h) := rfl

/-- The values: the entries at the first places of the order. -/
theorem topK_values : (Host.topK ⟨3, ![4096, 64, N]⟩ 2 (FloatOps.cmpfTotal .gt) a h).1 (ix3 b p k)
    = a (ix3 b p (order (fun n => a (ix3 b p n)) (k.castLE hN))) := by
  rw [topK_eq]
  exact (slice_zero hN h b p k _).trans (sort2_apply first a place b p (k.castLE hN) _ rfl).1

/-- The positions: the first places themselves, as words. -/
theorem topK_positions : (Host.topK ⟨3, ![4096, 64, N]⟩ 2 (FloatOps.cmpfTotal .gt) a h).2 (ix3 b p k)
    = BitVec.ofNat 32 (order (fun n => a (ix3 b p n)) (k.castLE hN)).val := by
  rw [topK_eq]
  exact (slice_zero hN h b p k _).trans (sort2_apply first a place b p (k.castLE hN) _ rfl).2

end Cert.Sorted

end
-- ==== Proof.HostMask.lean ====
/- The reference's mask of the eight greatest scores.

   For every batch entry and prompt the reference writes a one at the eight first places of the sorted row, into an array of
   zeros. The index of each write is the triple of batch entry, prompt and place, and none is negative, so the wrap of a
   negative index never acts (`places_apply`). An element of the mask is therefore one exactly when its position is one of the
   eight (`mask_apply`). -/
module

public import proofs.«01_k».proof.Proof.Sorted
public import proofs.«01_k».proof.Proof.Gen.ReferenceIdeal
public import Idealize.ShloMosaic.Lib.Routing.OpsSet
public import Idealize.ShloMosaic.Lib.StableHlo.Predicate

@[expose] public section

set_option maxRecDepth 16384

noncomputable section

namespace Cert.ReferenceIdeal.Host

open Cert.ReferenceIdeal Cert.ReferenceIdeal.Gen Idealize.ShloMosaic Cert.Sorted

/-- The batch entry of each write, as the program computes it. -/
def batchPart : IVec S4096x64x8 32 :=
  broadcastInDim S4096x64x8 ![0, 1, 2] bcast_S4096x1x1_S4096x64x8_0_1_2 (select (cmpi .slt (broadcastInDim S4096x1x1 ![0] bcast_S4096_S4096x1x1_0 (iotaInDim S4096 32 0)) (broadcastInDim S4096x1x1 ![] bcast_S_S4096x1x1 (constantI S_ 32 0#32))) (addi (broadcastInDim S4096x1x1 ![0] bcast_S4096_S4096x1x1_0 (iotaInDim S4096 32 0)) (broadcastInDim S4096x1x1 ![] bcast_S_S4096x1x1 (constantI S_ 32 4096#32))) (broadcastInDim S4096x1x1 ![0] bcast_S4096_S4096x1x1_0 (iotaInDim S4096 32 0)))

/-- The prompt of each write. -/
def promptPart : IVec S4096x64x8 32 :=
  broadcastInDim S4096x64x8 ![0, 1, 2] bcast_S1x64x1_S4096x64x8_0_1_2 (select (cmpi .slt (broadcastInDim S1x64x1 ![1] bcast_S64_S1x64x1_1 (iotaInDim S64 32 0)) (broadcastInDim S1x64x1 ![] bcast_S_S1x64x1 (constantI S_ 32 0#32))) (addi (broadcastInDim S1x64x1 ![1] bcast_S64_S1x64x1_1 (iotaInDim S64 32 0)) (broadcastInDim S1x64x1 ![] bcast_S_S1x64x1 (constantI S_ 32 64#32))) (broadcastInDim S1x64x1 ![1] bcast_S64_S1x64x1_1 (iotaInDim S64 32 0)))

/-- The place each write goes to, from the positions `w` of the sorted row. -/
def placePart (w : IVec S4096x64x8 32) : IVec S4096x64x8 32 :=
  select (cmpi .slt w (broadcastInDim S4096x64x8 ![] bcast_S_S4096x64x8 (constantI S_ 32 0#32))) (addi w (broadcastInDim S4096x64x8 ![] bcast_S_S4096x64x8 (constantI S_ 32 100#32))) w

/-- The three side by side. -/
def places (w : IVec S4096x64x8 32) : IVec S4096x64x8x3 32 :=
  concatenate S4096x64x8x3 3 [⟨S4096x64x8x1, broadcastInDim S4096x64x8x1 ![0, 1, 2] bcast_S4096x64x8_S4096x64x8x1_0_1_2 batchPart⟩, ⟨S4096x64x8x1, broadcastInDim S4096x64x8x1 ![0, 1, 2] bcast_S4096x64x8_S4096x64x8x1_0_1_2 promptPart⟩, ⟨S4096x64x8x1, broadcastInDim S4096x64x8x1 ![0, 1, 2] bcast_S4096x64x8_S4096x64x8x1_0_1_2 (placePart w)⟩] concatenates_S4096x64x8x1_S4096x64x8x1_S4096x64x8x1_S4096x64x8x3_d3

/-- The mask of an array of scores. -/
def mask (a : FVec Ideal S4096x64x100 .f32) : FVec Ideal S4096x64x100 .f32 :=
  Host.scatter scatter_S4096x64x100_S4096x64x8x3_S4096x64x8_n_012_012_3 (fun _ b => b) (broadcastInDim S4096x64x100 ![] bcast_S_S4096x64x100 (constant S_ .f32 0x00000000#32)) (places (Host.topK S4096x64x8 2 (FloatOps.cmpfTotal .gt) a sliceFits_S4096x64x100_S4096x64x8).2) (broadcastInDim S4096x64x8 ![] bcast_S_S4096x64x8 (constant S_ .f32 0x3F800000#32))

variable (b : Fin 4096) (p : Fin 64) (k : Fin 8)

/-- A small word is not negative, so it is taken as it is. -/
theorem wrap_small (n : ℕ) (h : n < 2 ^ 31) (x : BitVec 32) :
    Scalar.select (IntOp.cmpi .slt (BitVec.ofNat 32 n) 0#32) x (BitVec.ofNat 32 n) = BitVec.ofNat 32 n :=
  Routing.wrap_of_lt _ _ (by rw [BitVec.toNat_ofNat, Nat.mod_eq_of_lt (by omega)]; omega)

theorem batchPart_apply : batchPart (ix3 b p k) = BitVec.ofNat 32 b.val := by
  pointwise [batchPart]
  exact wrap_small _ (by omega) _

theorem promptPart_apply : promptPart (ix3 b p k) = BitVec.ofNat 32 p.val := by
  pointwise [promptPart]
  exact wrap_small _ (by omega) _

theorem placePart_apply (w : IVec S4096x64x8 32) (n : Fin 100) (hw : w (ix3 b p k) = BitVec.ofNat 32 n.val) :
    placePart w (ix3 b p k) = BitVec.ofNat 32 n.val := by
  pointwise [placePart]
  rw [hw]
  exact wrap_small _ (by omega) _

/-- Column `j` of a write's index, read signed. -/
theorem places_apply (w : IVec S4096x64x8 32) (n : Fin 100) (hw : w (ix3 b p k) = BitVec.ofNat 32 n.val) (j : Fin 3) :
    (places w (ix4 b p k j)).toInt = ((ix3 b p n : S4096x64x100.Idx) j).val := by
  have e : places w (ix4 b p k j)
      = if j.val < 1 then batchPart (ix3 b p k) else if j.val - 1 < 1 then promptPart (ix3 b p k) else placePart w (ix3 b p k) := by
    pointwise [places]
    rfl
  rw [e, batchPart_apply, promptPart_apply, placePart_apply b p k w n hw]
  fin_cases j <;> exact StableHlo.Predicate.toInt_ofNat_small _ (by omega)

/-- Where a write lands: at its own batch entry and prompt, at its place. -/
theorem lands (w : IVec S4096x64x8 32) (n : Fin 100) (hw : w (ix3 b p k) = BitVec.ofNat 32 n.val) :
    scatter_S4096x64x100_S4096x64x8x3_S4096x64x8_n_012_012_3.resultIdx? (ix3 b p k) (places w) = some (ix3 b p n) := by
  refine (Routing.resultIdx?_eq_some _ _ _ _).2 fun q => ?_
  have hwin : scatter_S4096x64x100_S4096x64x8x3_S4096x64x8_n_012_012_3.window (ix3 b p k) q = 0 := by
    fin_cases q <;> rfl
  have hstart : scatter_S4096x64x100_S4096x64x8x3_S4096x64x8_n_012_012_3.start (ix3 b p k) (places w) q = (places w (ix4 b p k q)).toInt := by
    unfold ScatterDims.start
    rw [dif_pos (by fin_cases q <;> decide)]
    refine congrArg (fun i => (places w i).toInt) (funext fun i => Fin.ext ?_)
    fin_cases q <;> fin_cases i <;> rfl
  rw [hwin, hstart, places_apply b p k w n hw q]
  exact Int.add_zero _

/-- An element of the mask: one where its position is one of the eight first places of its row's order, else zero. -/
theorem mask_apply (a : FVec Ideal S4096x64x100 .f32) (n : Fin 100) :
    mask a (ix3 b p n) = if ∃ k : Fin 8, order (fun n => a (ix3 b p n)) (k.castLE (by omega)) = n then Ideal.ofBits .f32 0x3F800000#32
      else Ideal.ofBits .f32 0x00000000#32 := by
  have hl : ∀ (b' : Fin 4096) (p' : Fin 64) (k' : Fin 8), scatter_S4096x64x100_S4096x64x8x3_S4096x64x8_n_012_012_3.resultIdx? (ix3 b' p' k')
      (places (Host.topK S4096x64x8 2 (FloatOps.cmpfTotal .gt) a sliceFits_S4096x64x100_S4096x64x8).2)
      = some (ix3 b' p' (order (fun n => a (ix3 b' p' n)) (k'.castLE (by omega)))) := fun b' p' k' =>
    lands b' p' k' _ _ (topK_positions (by omega) a _ b' p' k')
  unfold mask
  split
  · next h =>
    obtain ⟨k, hk⟩ := h
    refine Routing.scatter_set_hit _ _ _ _ _ _ (fun _ _ => rfl) (ix3 b p k) ((hl b p k).trans ?_)
    rw [hk]
  · next h =>
    refine Routing.scatter_set_miss _ _ _ _ _ fun i hi => h ?_
    idx_vars i
    rw [hl] at hi
    have e := Option.some.inj hi
    obtain rfl : i0 = b := congrFun e 0
    obtain rfl : i1 = p := congrFun e 1
    exact ⟨i2, congrFun e 2⟩

end Cert.ReferenceIdeal.Host

end
-- ==== Proof.BlockRows.lean ====
/- What one block of the kernel computes, row by row.

   A block holds 128 batch entries `x`, each of 100 positions and 64 channels. A branch projects every position to keys and to
   values (`proj`), scores each of the 64 prompts against each key (`score`), keeps the eight greatest scores of every prompt
   and averages the values by the softmax weights of the kept scores (Proof/TopEight.lean). The first branch takes `x` itself,
   the second `log (max x 0 + 1e-5)`, and ends in `exp (min · 10)`. Each value the kernel's body names is read here at an index. -/
module

public import proofs.«01_k».proof.Proof.TopEight
public import proofs.«01_k».proof.Proof.Gen.KernelIdeal.Skeleton
public import Idealize.ShloMosaic.PureOps.IdealRules
public import Idealize.ShloMosaic.Lib.Pointwise

@[expose] public section

set_option maxRecDepth 16384

noncomputable section

namespace Cert.Rows

open Idealize.ShloMosaic Cert.TopEight

/-! ## One row, as a function of one batch entry and one prompt -/

/-- One position `n` of a batch entry projected to channel `d`. -/
def proj (x : Fin 100 → Fin 64 → EReal) (w : Fin 64 → Fin 64 → EReal) (bias : Fin 64 → EReal) (n : Fin 100) (d : Fin 64) : EReal :=
  ∑ c, x n c * w c d + bias d

/-- The score of a prompt `q` against position `n`'s key: their inner product over eight, the root of the channel count. -/
def score (q : Fin 64 → EReal) (key : Fin 100 → Fin 64 → EReal) (n : Fin 100) : EReal :=
  Ideal.div (∑ d, q d * key n d) (Ideal.ofBits .f32 0x41000000#32)

/-- A branch's result for one prompt and one channel. -/
def branch (x : Fin 100 → Fin 64 → EReal) (q : Fin 64 → EReal) (wk : Fin 64 → Fin 64 → EReal) (bk : Fin 64 → EReal)
    (wv : Fin 64 → Fin 64 → EReal) (bv : Fin 64 → EReal) (d : Fin 64) : EReal :=
  mean (kept (score q (proj x wk bk))) fun n => proj x wv bv n d

/-- The second branch's input: the logarithm of the positive part plus 1e-5. -/
def logPart (x : Fin 100 → Fin 64 → EReal) (n : Fin 100) (c : Fin 64) : EReal :=
  Ideal.log (max (x n c) 0 + Ideal.ofBits .f32 0x3727C5AC#32)

/-- The second branch's result, raised to the exponential of at most ten. -/
def raised (y : EReal) : EReal := Ideal.exp (min y (Ideal.ofBits .f32 0x41200000#32))

/-- The float word of −∞ denotes `⊥`. -/
theorem ofBits_bot : Ideal.ofBits .f32 0xFF800000#32 = ⊥ := by
  simp [Ideal.ofBits, Ideal.ieee]

end Cert.Rows

namespace Cert.KernelIdeal.Block

open Idealize.ShloMosaic Cert.TopEight Cert.Rows Cert.KernelIdeal Cert.KernelIdeal.Gen

/-- The constant the kernel masks with is named and denotes `⊥`. -/
theorem neg_eq : Named.named (F := Ideal) κ "neg" (φ := .f32) 0xFF61B1E6#32 = (⊥ : EReal) :=
  IdealRules.named_const.ideal_named_scalar _ _ _ _ rfl

/-! ## One branch on a block -/

section

variable (x : FVec Ideal S128x100x64 .f32) (wk wv : FVec Ideal S64x64 .f32) (bk bv : FVec Ideal S1x64 .f32) (q : FVec Ideal S64x64 .f32)
variable (b : Fin 128) (p d : Fin 64) (n : Fin 100)

/-- The values. -/
theorem pay3_apply : k0_pay3 (F := Ideal) x wv bv (ix3 b n d)
    = proj (fun n c => x (ix3 b n c)) (fun c d => wv (ix2 c d)) (fun d => bv (ix2 0 d)) n d := by
  unfold proj
  pointwise! [k0_pay3, k0_pay2]

/-- The scores. -/
theorem pay4_apply : k0_pay4 (F := Ideal) x wk bk q (ix3 b p n)
    = score (fun d => q (ix2 p d)) (proj (fun n c => x (ix3 b n c)) (fun c d => wk (ix2 c d)) fun d => bk (ix2 0 d)) n := by
  unfold score proj
  pointwise! [k0_pay4, k0_pay2]

/-- The greatest score of a prompt. -/
theorem pay5_apply : k0_pay5 (F := Ideal) x wk bk q (ix3 b p 0) = top fun n => k0_pay4 (F := Ideal) x wk bk q (ix3 b p n) := by
  unfold top
  pointwise [k0_pay5]
  rw [ofBits_bot]

/-- The threshold after two rounds. -/
theorem pay6_apply : k0_pay6 (F := Ideal) x wk bk q (ix2 b p)
    = threshold (fun n => k0_pay4 (F := Ideal) x wk bk q (ix3 b p n)) 2 := by
  simp only [threshold, below, ← pay5_apply]
  pointwise [k0_pay6]
  rw [ofBits_bot, neg_eq]

end

/-- From the values, the scores, the greatest score and the threshold after two rounds: the five remaining rounds and the average. -/
theorem pay7_apply (v : FVec Ideal S128x100x64 .f32) (a : FVec Ideal S128x64x100 .f32) (m : FVec Ideal S128x64x1 .f32)
    (t : FVec Ideal S128x64 .f32) (b : Fin 128) (p d : Fin 64) (hm : m (ix3 b p 0) = top fun n => a (ix3 b p n))
    (ht : t (ix2 b p) = threshold (fun n => a (ix3 b p n)) 2) :
    k0_pay7 (F := Ideal) v a m t (ix3 b p d) = mean (kept fun n => a (ix3 b p n)) fun n => v (ix3 b n d) := by
  pointwise [k0_pay7]
  rw [ofBits_bot, neg_eq, hm, ht]
  rfl

/-- The first branch's half of a block's result. -/
def half (x : FVec Ideal S128x100x64 .f32) (q wk : FVec Ideal S64x64 .f32) (bk : FVec Ideal S1x64 .f32) (wv : FVec Ideal S64x64 .f32)
    (bv : FVec Ideal S1x64 .f32) : FVec Ideal S128x64x64 .f32 :=
  k0_pay7 (k0_pay3 x wv bv) (k0_pay4 x wk bk q) (k0_pay5 x wk bk q) (k0_pay6 x wk bk q)

/-- At batch entry `b`, prompt `p` and channel `d` it is the branch of that entry and prompt. -/
theorem half_apply (x : FVec Ideal S128x100x64 .f32) (q wk : FVec Ideal S64x64 .f32) (bk : FVec Ideal S1x64 .f32) (wv : FVec Ideal S64x64 .f32)
    (bv : FVec Ideal S1x64 .f32) (b : Fin 128) (p d : Fin 64) :
    half x q wk bk wv bv (ix3 b p d) = branch (fun n c => x (ix3 b n c)) (fun c => q (ix2 p c)) (fun c d => wk (ix2 c d)) (fun d => bk (ix2 0 d))
      (fun c d => wv (ix2 c d)) (fun d => bv (ix2 0 d)) d := by
  unfold half branch
  rw [pay7_apply _ _ _ _ b p d (pay5_apply x wk bk q b p) (pay6_apply x wk bk q b p)]
  simp only [pay3_apply, pay4_apply]

/-! ## The second branch is the first on the logarithm of the positive part -/

/-- The second branch's input block. -/
def logBlock (x : FVec Ideal S128x100x64 .f32) : FVec Ideal S128x100x64 .f32 :=
  log (addf (maximumf x (broadcast S128x100x64 (Scalar.ofBits .f32 0x00000000#32))) (broadcast S128x100x64 (Scalar.ofBits .f32 0x3727C5AC#32)))

theorem logBlock_apply (x : FVec Ideal S128x100x64 .f32) (b : Fin 128) (n : Fin 100) (c : Fin 64) :
    logBlock x (ix3 b n c) = logPart (fun n c => x (ix3 b n c)) n c := by
  unfold logPart
  pointwise [logBlock]

/-- The second branch's values before the exponential are the same half at that input: the body runs the same operations. -/
theorem pay14_eq (x : FVec Ideal S128x100x64 .f32) (q wk : FVec Ideal S64x64 .f32) (bk : FVec Ideal S1x64 .f32) (wv : FVec Ideal S64x64 .f32)
    (bv : FVec Ideal S1x64 .f32) :
    k0_pay14 (k0_pay9 x wv bv) (k0_pay10 x wk bk q) (k0_pay11 x wk bk q) (k0_pay12 (F := Ideal) x wk bk q) k0_pay13 = half (logBlock x) q wk bk wv bv := rfl

/-- The second branch's half of a block's result: the exponential of at most ten. -/
theorem raised_apply (y : FVec Ideal S128x64x64 .f32) (b : Fin 128) (p d : Fin 64) :
    k0_pay1 (F := Ideal) y (Scalar.ofBits .f32 0x41200000#32) (ix3 b p d) = raised (y (ix3 b p d)) := by
  unfold raised
  pointwise [k0_pay1]

end Cert.KernelIdeal.Block

end
-- ==== Proof.Array.lean ====
/- What the kernel's output array holds after the run.

   The grid has 32 points; point `t` reads batch entries `128 t … 128 t + 127` and writes the same entries of the output, rows
   0-63 from the first branch and rows 64-127 from the second. `entry` is one element of that array as a function of the batch
   entry and the parameters; `out_apply` reads a block's result as it, and `final` the whole array. -/
module

public import proofs.«01_k».proof.Proof.BlockRows
public import proofs.«01_k».proof.Proof.Gen.KernelIdeal.Value
public import Idealize.ShloMosaic.Lib.Pipeline.ValueKit

@[expose] public section

set_option maxRecDepth 16384

noncomputable section

namespace Cert.Rows

open Idealize.ShloMosaic

/-- The prompt that output row `r` belongs to, in either half. -/
def prompt (r : Fin 128) : Fin 64 := ⟨r.val % 64, Nat.mod_lt _ (by omega)⟩

/-- One element of the output: row `r` and channel `d` of the batch entry `x`. -/
def entry (x : Fin 100 → Fin 64 → EReal) (qa qm wka : Fin 64 → Fin 64 → EReal) (bka : Fin 64 → EReal) (wva : Fin 64 → Fin 64 → EReal)
    (bva : Fin 64 → EReal) (wkm : Fin 64 → Fin 64 → EReal) (bkm : Fin 64 → EReal) (wvm : Fin 64 → Fin 64 → EReal) (bvm : Fin 64 → EReal)
    (r : Fin 128) (d : Fin 64) : EReal :=
  if r.val < 64 then branch x (qa (prompt r)) wka bka wva bva d else raised (branch (logPart x) (qm (prompt r)) wkm bkm wvm bvm d)

end Cert.Rows

namespace Cert.KernelIdeal.Block

open Cert.KernelIdeal Cert.KernelIdeal.Gen Idealize.ShloMosaic Idealize.ShloMosaic.TcCoe Cert.Rows

/-- The body's two stores read back: rows 0-63 from the first, rows 64-127 from the second. -/
theorem stores_apply (u v : FVec Ideal S128x64x64 .f32) (b r : Fin 128) (d : Fin 64) :
    View.canon ([⟨r0_4, u⟩, ⟨r0_3, v⟩] : List (View.Piece (Elt Ideal) S128x128x64 .f32)) (ix3 b r d)
      = if r.val < 64 then v (ix3 b (prompt r) d) else u (ix3 b (prompt r) d) := by
  canon_tiles x h
  all_goals
    have hx : x = ix3 b (prompt r) d := by
      funext i
      refine Fin.ext ?_
      fin_cases i
      · exact h0.symm
      · change r.val = _ at h1
        change (x 1).val = r.val % 64
        omega
      · exact h2.symm
  · change r.val = _ at h1
    rw [if_neg (by omega), hx]
  · change r.val = _ at h1
    rw [if_pos (by omega), hx]

/-- A block's result at batch entry `b` of the block, row `r` and channel `d`. -/
theorem out_apply (x0 : FVec Ideal S128x100x64 .f32) (x1 x2 x3 : FVec Ideal S64x64 .f32) (x4 : FVec Ideal S1x64 .f32) (x5 : FVec Ideal S64x64 .f32)
    (x6 : FVec Ideal S1x64 .f32) (x7 : FVec Ideal S64x64 .f32) (x8 : FVec Ideal S1x64 .f32) (x9 : FVec Ideal S64x64 .f32) (x10 : FVec Ideal S1x64 .f32)
    (b r : Fin 128) (d : Fin 64) :
    out0_11 (F := Ideal) x0 x1 x2 x3 x4 x5 x6 x7 x8 x9 x10 (ix3 b r d)
      = entry (fun n c => x0 (ix3 b n c)) (fun p c => x1 (ix2 p c)) (fun p c => x2 (ix2 p c)) (fun c d => x3 (ix2 c d)) (fun d => x4 (ix2 0 d))
        (fun c d => x5 (ix2 c d)) (fun d => x6 (ix2 0 d)) (fun c d => x7 (ix2 c d)) (fun d => x8 (ix2 0 d)) (fun c d => x9 (ix2 c d))
        (fun d => x10 (ix2 0 d)) r d := by
  have hx : View.ld (Val := Elt Ideal) (e' := .f32) x0 r0_0 = x0 := View.ld_unit_lit (Val := Elt Ideal) (e := .f32) (S := S128x100x64) (off := ![0, 0, 0]) inb_S128x100x64_S128x100x64_0_0_0 x0 (by decide)
  have hw : ∀ w : FVec Ideal S64x64 .f32, View.ld (Val := Elt Ideal) (e' := .f32) w r0_1 = w := fun w =>
    View.ld_unit_lit (Val := Elt Ideal) (e := .f32) (S := S64x64) (off := ![0, 0]) inb_S64x64_S64x64_0_0 w (by decide)
  have hb : ∀ w : FVec Ideal S1x64 .f32, View.ld (Val := Elt Ideal) (e' := .f32) w r0_2 = w := fun w => View.ld_unit_lit (Val := Elt Ideal) (e := .f32) (S := S1x64) (off := ![0, 0]) inb_S1x64_S1x64_0_0 w (by decide)
  unfold out0_11
  simp only [hx, hw, hb]
  rw [pay14_eq]
  refine (stores_apply _ _ b r d).trans ?_
  unfold entry
  simp only [raised_apply, half_apply]
  change (if _ then half x0 x1 x3 x4 x5 x6 (ix3 b (prompt r) d) else _) = _
  simp only [half_apply, logBlock_apply]

/-- The output array over the argument arrays. -/
def result (x : FVec Ideal S4096x100x64 .f32) (qa qm : FVec Ideal S1x64x64 .f32) (wka : FVec Ideal S64x64 .f32) (bka : FVec Ideal S64 .f32)
    (wva : FVec Ideal S64x64 .f32) (bva : FVec Ideal S64 .f32) (wkm : FVec Ideal S64x64 .f32) (bkm : FVec Ideal S64 .f32)
    (wvm : FVec Ideal S64x64 .f32) (bvm : FVec Ideal S64 .f32) : FVec Ideal S4096x128x64 .f32 := fun i =>
  entry (fun n c => x (ix3 (i 0) n c)) (fun p c => qa (ix3 0 p c)) (fun p c => qm (ix3 0 p c)) (fun c d => wka (ix2 c d)) (fun d => bka (ix1 d))
    (fun c d => wva (ix2 c d)) (fun d => bva (ix1 d)) (fun c d => wkm (ix2 c d)) (fun d => bkm (ix1 d)) (fun c d => wvm (ix2 c d))
    (fun d => bvm (ix1 d)) (i 1) (i 2)

variable (m : (ℓ : Loc nD τ sig) → Buf (Elt Ideal) ℓ)

/-- Where each window's block stands: the input's and the output's move along the batch, every other is its whole array. -/
theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0, 0] :=
  (by decide +kernel : ∀ t : Fin grid0.N, _)

/-- The output array after the run. -/
theorem final (c : Dev nD) : (dats m 0 c).arrAt 11 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 11 _ (by decide +kernel) fun t _ y => ?_
  blk_simp
  rw [after0_11]
  idx_vars y
  refine (out_apply _ _ _ _ _ _ _ _ _ _ _ _ _ _).trans ?_
  have ht : t.val < 32 := t.isLt
  have hi : ((cfg0.win 11).blk t).view.emb (ix3 y0 y1 y2) = ix3 (⟨t.val * 128 + y0.val, by omega⟩ : Fin 4096) y1 y2 := by
    blk_ext [idx t]
  refine Eq.trans ?_ (congrArg (result _ _ _ _ _ _ _ _ _ _ _) hi).symm
  unfold result
  blk_point [iblk, V, idx t]

end Cert.KernelIdeal.Block

end
-- ==== Proof.HostRows.lean ====
/- What the reference computes, row by row.

   The reference works on the whole batch at once. Its arrays are named here as the program composes them (`hostProj`,
   `hostScores`, …) and read at an index: the projections and scores are those of Proof/BlockRows.lean.
   Proof/HostBranch.lean puts a branch together. -/
module

public import proofs.«01_k».proof.Proof.HostMask
public import proofs.«01_k».proof.Proof.Array

@[expose] public section

set_option maxRecDepth 16384

noncomputable section

namespace Cert.ReferenceIdeal.Host

open Cert.ReferenceIdeal Cert.ReferenceIdeal.Gen Idealize.ShloMosaic Cert.Sorted Cert.TopEight Cert.Rows

/-! ## The arrays, as the program composes them -/

/-- The second branch's input. -/
def hostLog (x : FVec Ideal S4096x100x64 .f32) : FVec Ideal S4096x100x64 .f32 :=
  Host.log (addf (maximumf x (broadcastInDim S4096x100x64 ![] bcast_S_S4096x100x64 (constant S_ .f32 0x00000000#32))) (broadcastInDim S4096x100x64 ![] bcast_S_S4096x100x64 (constant S_ .f32 0x3727C5AC#32)))

/-- Every position projected: the keys, or the values. -/
def hostProj (x : FVec Ideal S4096x100x64 .f32) (w : FVec Ideal S64x64 .f32) (bias : FVec Ideal S64 .f32) : FVec Ideal S4096x100x64 .f32 :=
  addf (Host.dotGeneral dot_S4096x100x64_S64x64_S4096x100x64_2_0_01_1_n_n none x w) (broadcastInDim S4096x100x64 ![0, 1, 2] bcast_S1x1x64_S4096x100x64_0_1_2 (broadcastInDim S1x1x64 ![2] bcast_S64_S1x1x64_2 bias))

/-- The scores of the prompts against keys. -/
def hostScores (q : FVec Ideal S1x64x64 .f32) (key : FVec Ideal S4096x100x64 .f32) : FVec Ideal S4096x64x100 .f32 :=
  Host.divf (Host.dotGeneral dot_S4096x64x64_S4096x100x64_S4096x64x100_2_2_1_1_0_0 none (broadcastInDim S4096x64x64 ![0, 1, 2] bcast_S1x64x64_S4096x64x64_0_1_2 q) key) (broadcastInDim S4096x64x100 ![] bcast_S_S4096x64x100 (constant S_ .f32 0x41000000#32))

/-- The scores `a` with every entry put to the bottom where the mask `k` is zero. -/
def hostKeep (k a : FVec Ideal S4096x64x100 .f32) : FVec Ideal S4096x64x100 .f32 :=
  select (cmpf .oeq k (broadcastInDim S4096x64x100 ![] bcast_S_S4096x64x100 (constant S_ .f32 0x00000000#32))) (broadcastInDim S4096x64x100 ![] bcast_S_S4096x64x100 (id (constant S_ .f32 0xFF800000#32))) a

/-- The greatest entry of every row. -/
def hostTop (y : FVec Ideal S4096x64x100 .f32) : FVec Ideal S4096x64 .f32 :=
  maximumf (broadcastInDim S4096x64 ![] bcast_S_S4096x64 (constant S_ .f32 0xFF800000#32)) (Host.reduce FloatOps.maximumf y (constant S_ .f32 0xFF800000#32) reducesTo_S4096x64x100_S4096x64_d2 h_S_)

/-- The exponentials of the entries' distances to their row's value in `t`. -/
def hostExp (y : FVec Ideal S4096x64x100 .f32) (t : FVec Ideal S4096x64 .f32) : FVec Ideal S4096x64x100 .f32 :=
  Host.exp (subf y (broadcastInDim S4096x64x100 ![0, 1, 2] bcast_S4096x64x1_S4096x64x100_0_1_2 (broadcastInDim S4096x64x1 ![0, 1] bcast_S4096x64_S4096x64x1_0_1 t)))

/-- The exponentials of the eight greatest entries' distances to the greatest, zero elsewhere. -/
def hostSoft (a : FVec Ideal S4096x64x100 .f32) : FVec Ideal S4096x64x100 .f32 :=
  hostExp (hostKeep (mask a) a) (hostTop (hostKeep (mask a) a))

/-- The values averaged by the weights the exponentials give. -/
def hostMean (e : FVec Ideal S4096x64x100 .f32) (v : FVec Ideal S4096x100x64 .f32) : FVec Ideal S4096x64x64 .f32 :=
  Host.dotGeneral dot_S4096x64x100_S4096x100x64_S4096x64x64_2_1_1_2_0_0 none (Host.divf e (broadcastInDim S4096x64x100 ![0, 1, 2] bcast_S4096x64x1_S4096x64x100_0_1_2 (broadcastInDim S4096x64x1 ![0, 1] bcast_S4096x64_S4096x64x1_0_1 (Host.reduceAdd e (constant S_ .f32 0x00000000#32) reducesTo_S4096x64x100_S4096x64_d2 h_S_)))) v

/-- One branch. -/
def hostBranch (x : FVec Ideal S4096x100x64 .f32) (q : FVec Ideal S1x64x64 .f32) (wk : FVec Ideal S64x64 .f32) (bk : FVec Ideal S64 .f32)
    (wv : FVec Ideal S64x64 .f32) (bv : FVec Ideal S64 .f32) : FVec Ideal S4096x64x64 .f32 :=
  hostMean (hostSoft (hostScores q (hostProj x wk bk))) (hostProj x wv bv)

/-- The second branch's last step. -/
def hostRaised (y : FVec Ideal S4096x64x64 .f32) : FVec Ideal S4096x64x64 .f32 :=
  Host.exp (minimumf y (broadcastInDim S4096x64x64 ![] bcast_S_S4096x64x64 (constant S_ .f32 0x41200000#32)))

/-- The result: the two branches' rows one after the other. -/
def hostResult (x : FVec Ideal S4096x100x64 .f32) (qa qm : FVec Ideal S1x64x64 .f32) (wka : FVec Ideal S64x64 .f32) (bka : FVec Ideal S64 .f32)
    (wva : FVec Ideal S64x64 .f32) (bva : FVec Ideal S64 .f32) (wkm : FVec Ideal S64x64 .f32) (bkm : FVec Ideal S64 .f32)
    (wvm : FVec Ideal S64x64 .f32) (bvm : FVec Ideal S64 .f32) : FVec Ideal S4096x128x64 .f32 :=
  concatenate S4096x128x64 1 [⟨S4096x64x64, hostBranch x qa wka bka wva bva⟩, ⟨S4096x64x64, hostRaised (hostBranch (hostLog x) qm wkm bkm wvm bvm)⟩] concatenates_S4096x64x64_S4096x64x64_S4096x128x64_d1

/-! ## The arrays at an index -/

variable (b : Fin 4096) (p : Fin 64) (n : Fin 100) (d : Fin 64)

theorem hostLog_apply (x : FVec Ideal S4096x100x64 .f32) : hostLog x (ix3 b n d) = logPart (fun n c => x (ix3 b n c)) n d := by
  unfold logPart
  pointwise [hostLog]

theorem hostProj_apply (x : FVec Ideal S4096x100x64 .f32) (w : FVec Ideal S64x64 .f32) (bias : FVec Ideal S64 .f32) :
    hostProj x w bias (ix3 b n d) = proj (fun n c => x (ix3 b n c)) (fun c d => w (ix2 c d)) (fun d => bias (ix1 d)) n d := by
  unfold proj
  pointwise [hostProj]

theorem hostScores_apply (q : FVec Ideal S1x64x64 .f32) (key : FVec Ideal S4096x100x64 .f32) :
    hostScores q key (ix3 b p n) = score (fun d => q (ix3 0 p d)) (fun n d => key (ix3 b n d)) n := by
  unfold score
  pointwise [hostScores]

theorem hostKeep_apply (k a : FVec Ideal S4096x64x100 .f32) :
    hostKeep k a (ix3 b p n) = if k (ix3 b p n) = 0 then ⊥ else a (ix3 b p n) := by
  pointwise [hostKeep]
  exact congrArg (fun z => if k (ix3 b p n) = 0 then z else a (ix3 b p n)) ofBits_bot

/-- The maximum with the constant `-∞` array changes nothing. -/
theorem floor_apply (r : FVec Ideal S4096x64 .f32) :
    maximumf (broadcastInDim S4096x64 ![] bcast_S_S4096x64 (constant S_ .f32 0xFF800000#32)) r (ix2 b p)
      = max (Ideal.ofBits .f32 0xFF800000#32) (r (ix2 b p)) := by
  pointwise

theorem hostExp_apply (y : FVec Ideal S4096x64x100 .f32) (t : FVec Ideal S4096x64 .f32) :
    hostExp y t (ix3 b p n) = Ideal.exp (y (ix3 b p n) - t (ix2 b p)) := by
  pointwise [hostExp]

theorem hostMean_apply (e : FVec Ideal S4096x64x100 .f32) (v : FVec Ideal S4096x100x64 .f32) :
    hostMean e v (ix3 b p d) = mean (fun n => e (ix3 b p n)) fun n => v (ix3 b n d) := by
  unfold mean
  pointwise [hostMean]

theorem hostRaised_apply (y : FVec Ideal S4096x64x64 .f32) : hostRaised y (ix3 b p d) = raised (y (ix3 b p d)) := by
  unfold raised
  pointwise [hostRaised]

end Cert.ReferenceIdeal.Host

end
-- ==== Proof.HostBranch.lean ====
/- A branch of the reference, row by row.

   The reference's softmax runs over the row of scores with every entry but the eight of the mask put to `⊥`. Where the sorted row
   is ranked this is the kernel's branch of Proof/BlockRows.lean. -/
module

public import proofs.«01_k».proof.Proof.HostRows
public import Idealize.ShloMosaic.Lib.KernelVsHost
public import Idealize.ShloMosaic.Lib.IdealHost

@[expose] public section

set_option maxRecDepth 16384

noncomputable section

namespace Cert.ReferenceIdeal.Host

open Cert.ReferenceIdeal Cert.ReferenceIdeal.Gen Idealize.ShloMosaic Cert.Sorted Cert.TopEight Cert.Rows

variable (b : Fin 4096) (p : Fin 64) (n : Fin 100) (d : Fin 64)

/-- The score array with the entries outside the mask at the bottom, as the rows of Proof/TopEight.lean have it. -/
theorem hostKeep_mask (a : FVec Ideal S4096x64x100 .f32) :
    hostKeep (mask a) a (ix3 b p n) = masked (fun n => a (ix3 b p n)) (order fun n => a (ix3 b p n)) n := by
  rw [hostKeep_apply, mask_apply]
  unfold masked
  by_cases h : ∃ k : Fin 8, order (fun n => a (ix3 b p n)) (k.castLE (by omega)) = n
  · rw [if_pos h, if_pos h, Ideal.ofBits_one_f32, if_neg one_ne_zero]
  · rw [if_neg h, if_neg h, Ideal.ofBits_zero_f32, if_pos rfl]

theorem reduces_row : S4096x64x100.Reduces [2] S4096x64 := by decide

/-- The fold over a row, as the vector reduction of the same row. -/
theorem rowMax_apply (y : FVec Ideal S4096x64x100 .f32) :
    multiReduction .maximumf [2] S4096x64 y 0xFF800000#32 reduces_row (.inl rfl) rfl (ix2 b p)
      = Finset.univ.fold max (Ideal.ofBits .f32 0xFF800000#32) fun n : Fin 100 => y (ix3 b p n) := by
  pointwise

theorem hostTop_apply (y : FVec Ideal S4096x64x100 .f32) : hostTop y (ix2 b p) = top fun n => y (ix3 b p n) := by
  have h : Host.reduce FloatOps.maximumf y (constant S_ .f32 0xFF800000#32) reducesTo_S4096x64x100_S4096x64_d2 h_S_
      = multiReduction .maximumf [2] S4096x64 y 0xFF800000#32 reduces_row (.inl rfl) rfl :=
    hostReduce_maximumf_eq_multiReduction y _ _ _ reduces_row _ _
  unfold hostTop
  rw [floor_apply, h, rowMax_apply, ofBits_bot, max_bot_left]
  unfold top
  rfl

theorem hostSoft_apply (a : FVec Ideal S4096x64x100 .f32) :
    hostSoft a (ix3 b p n) = soft (fun n => a (ix3 b p n)) (order fun n => a (ix3 b p n)) n := by
  unfold hostSoft soft
  rw [hostExp_apply, hostTop_apply]
  simp only [hostKeep_mask]

/-- A branch at an index, where the sorted row of scores is ranked: the branch of Proof/BlockRows.lean. -/
theorem hostBranch_apply (x : FVec Ideal S4096x100x64 .f32) (q : FVec Ideal S1x64x64 .f32) (wk : FVec Ideal S64x64 .f32) (bk : FVec Ideal S64 .f32)
    (wv : FVec Ideal S64x64 .f32) (bv : FVec Ideal S64 .f32)
    (h : Ranked (fun n => hostScores q (hostProj x wk bk) (ix3 b p n)) (order fun n => hostScores q (hostProj x wk bk) (ix3 b p n))) :
    hostBranch x q wk bk wv bv (ix3 b p d) = branch (fun n c => x (ix3 b n c)) (fun c => q (ix3 0 p c)) (fun c d => wk (ix2 c d))
      (fun d => bk (ix1 d)) (fun c d => wv (ix2 c d)) (fun d => bv (ix1 d)) d := by
  unfold hostBranch branch
  rw [hostMean_apply]
  simp only [hostSoft_apply, h.soft_eq]
  simp only [hostScores_apply, hostProj_apply]

end Cert.ReferenceIdeal.Host

end
-- ==== Proof.Ties.lean ====
/- What the precondition says of the rows of scores.

   `no_tie` sorts every row of scores of both branches and holds when each of the first eight entries of the sorted row is greater
   than the one after it. Its scores are the reference's, so every row of either branch is ranked (Proof/TopEight.lean). -/
module

public import proofs.«01_k».proof.Proof.HostRows
public import proofs.«01_k».proof.Proof.Gen.Pre_no_tie

@[expose] public section

set_option maxRecDepth 16384

noncomputable section

namespace Cert.Pre_no_tie.Ties

open Cert.Pre_no_tie Cert.Pre_no_tie.Gen Idealize.ShloMosaic Cert.Sorted Cert.TopEight Cert.ReferenceIdeal.Host

/-- Whether each of the first eight of nine entries is greater than the next. -/
def falls (v : FVec Ideal S4096x64x9 .f32) : IVec S4096x64x8 1 :=
  cmpf .ogt (extractStridedSlice S4096x64x8 ![0, 0, 0] v Facts.slices_S4096x64x9_S4096x64x8_0_0_0)
    (extractStridedSlice S4096x64x8 ![0, 0, 1] v Facts.slices_S4096x64x9_S4096x64x8_0_0_1)

/-- The first nine entries of every sorted row. -/
def nine (a : FVec Ideal S4096x64x100 .f32) : FVec Ideal S4096x64x9 .f32 :=
  (Host.topK S4096x64x9 2 (FloatOps.cmpfTotal .gt) a Facts.sliceFits_S4096x64x100_S4096x64x9).1

/-- The precondition, of the reference's scores. -/
theorem fn_eq (x : FVec Ideal S4096x100x64 .f32) (qa qm : FVec Ideal S1x64x64 .f32) (wka : FVec Ideal S64x64 .f32) (bka : FVec Ideal S64 .f32)
    (wva : FVec Ideal S64x64 .f32) (bva : FVec Ideal S64 .f32) (wkm : FVec Ideal S64x64 .f32) (bkm : FVec Ideal S64 .f32)
    (wvm : FVec Ideal S64x64 .f32) (bvm : FVec Ideal S64 .f32) :
    fn (F := Ideal) x qa qm wka bka wva bva wkm bkm wvm bvm
      = andi (falls (nine (hostScores qa (hostProj x wka bka)))) (falls (nine (hostScores qm (hostProj (hostLog x) wkm bkm)))) := rfl

variable (b : Fin 4096) (p : Fin 64)

theorem falls_apply (v : FVec Ideal S4096x64x9 .f32) (k : Fin 8) (h : falls v (ix3 b p k) = 1#1) :
    v (ix3 b p k.succ) < v (ix3 b p k.castSucc) := by
  revert h
  pointwise [falls]
  intro h
  have lt : v (ix3 b p ⟨1 + k.val, by omega⟩) < v (ix3 b p ⟨k.val, by omega⟩) := by
    by_contra hn
    rw [decide_eq_false hn] at h
    exact absurd h (by decide)
  rwa [show (⟨1 + k.val, by omega⟩ : Fin 9) = k.succ from Fin.ext (Nat.add_comm 1 k.val)] at lt

/-- A row whose first nine sorted entries strictly fall is ranked. -/
theorem ranked_of_falls (a : FVec Ideal S4096x64x100 .f32) (h : ∀ k : Fin 8, falls (nine a) (ix3 b p k) = 1#1) :
    Ranked (fun n => a (ix3 b p n)) (order fun n => a (ix3 b p n)) := by
  refine ranked _ fun k hk => ?_
  have := falls_apply b p (nine a) ⟨k, hk⟩ (h _)
  unfold nine at this
  rw [topK_values (by omega), topK_values (by omega)] at this
  exact this

theorem and_one : ∀ {u v : BitVec 1}, u &&& v = 1#1 → u = 1#1 ∧ v = 1#1 := by
  decide

/-- Under the precondition every row of scores of either branch is ranked. -/
theorem ranked_both (x : FVec Ideal S4096x100x64 .f32) (qa qm : FVec Ideal S1x64x64 .f32) (wka : FVec Ideal S64x64 .f32) (bka : FVec Ideal S64 .f32)
    (wva : FVec Ideal S64x64 .f32) (bva : FVec Ideal S64 .f32) (wkm : FVec Ideal S64x64 .f32) (bkm : FVec Ideal S64 .f32)
    (wvm : FVec Ideal S64x64 .f32) (bvm : FVec Ideal S64 .f32)
    (h : fn (F := Ideal) x qa qm wka bka wva bva wkm bkm wvm bvm = fun _ => 1#1) :
    Ranked (fun n => hostScores qa (hostProj x wka bka) (ix3 b p n)) (order fun n => hostScores qa (hostProj x wka bka) (ix3 b p n))
    ∧ Ranked (fun n => hostScores qm (hostProj (hostLog x) wkm bkm) (ix3 b p n))
        (order fun n => hostScores qm (hostProj (hostLog x) wkm bkm) (ix3 b p n)) := by
  rw [fn_eq] at h
  have both (k : Fin 8) : falls (nine (hostScores qa (hostProj x wka bka))) (ix3 b p k) = 1#1
      ∧ falls (nine (hostScores qm (hostProj (hostLog x) wkm bkm))) (ix3 b p k) = 1#1 := and_one (congrFun h (ix3 b p k))
  exact ⟨ranked_of_falls b p _ fun k => (both k).1, ranked_of_falls b p _ fun k => (both k).2⟩

end Cert.Pre_no_tie.Ties

end
-- ==== Proof.Equation.lean ====
/- The equation: under the precondition the reference's result is the array the kernel leaves.

   `res_eq` names the composed term of the reference's run; `hostResult_eq` compares it with the kernel's array element by element:
   a row below 64 is the first branch's, one from 64 on the second's. -/
module

public import proofs.«01_k».proof.Proof.HostBranch
public import proofs.«01_k».proof.Proof.Ties
public import proofs.«01_k».proof.Proof.Gen.ReferenceIdeal.Run

@[expose] public section

set_option maxRecDepth 16384

noncomputable section

namespace Cert.ReferenceIdeal.Host

open Cert.ReferenceIdeal Cert.ReferenceIdeal.Gen Idealize.ShloMosaic Cert.Sorted Cert.TopEight Cert.Rows

/-- Two arrays of 64 rows one after the other, at an index. -/
theorem rows_apply (y z : FVec Ideal S4096x64x64 .f32) (b : Fin 4096) (r : Fin 128) (d : Fin 64) :
    concatenate S4096x128x64 1 [⟨S4096x64x64, y⟩, ⟨S4096x64x64, z⟩] concatenates_S4096x64x64_S4096x64x64_S4096x128x64_d1 (ix3 b r d)
      = if r.val < 64 then y (ix3 b (prompt r) d) else z (ix3 b (prompt r) d) := by
  pointwise
  have low (h : r.val < 64) : (⟨r.val, h⟩ : Fin 64) = prompt r := Fin.ext (Nat.mod_eq_of_lt h).symm
  have high (h : ¬ r.val < 64) : (⟨r.val - 64, by omega⟩ : Fin 64) = prompt r := Fin.ext (show r.val - 64 = r.val % 64 by omega)
  by_cases h : r.val < 64
  · rw [dif_pos h, if_pos h, low h]
  · rw [dif_neg h, if_neg h, high h]

/-- The reference's result is the kernel's array. -/
theorem hostResult_eq (x : FVec Ideal S4096x100x64 .f32) (qa qm : FVec Ideal S1x64x64 .f32) (wka : FVec Ideal S64x64 .f32) (bka : FVec Ideal S64 .f32)
    (wva : FVec Ideal S64x64 .f32) (bva : FVec Ideal S64 .f32) (wkm : FVec Ideal S64x64 .f32) (bkm : FVec Ideal S64 .f32)
    (wvm : FVec Ideal S64x64 .f32) (bvm : FVec Ideal S64 .f32)
    (h : Cert.Pre_no_tie.fn (F := Ideal) x qa qm wka bka wva bva wkm bkm wvm bvm = fun _ => 1#1) :
    hostResult x qa qm wka bka wva bva wkm bkm wvm bvm = Cert.KernelIdeal.Block.result x qa qm wka bka wva bva wkm bkm wvm bvm := by
  funext j
  idx_vars j
  have hr := Cert.Pre_no_tie.Ties.ranked_both j0 (prompt j1) x qa qm wka bka wva bva wkm bkm wvm bvm h
  unfold hostResult
  rw [rows_apply, hostRaised_apply, hostBranch_apply _ _ _ _ _ _ _ _ _ hr.1, hostBranch_apply _ _ _ _ _ _ _ _ _ hr.2]
  simp only [hostLog_apply]
  rfl

/-- The reference's composed term is `hostResult` of its arguments. -/
theorem res_eq (m : (ℓ : Loc nD τ sig) → Buf (Elt Ideal) ℓ) (c : Dev nD) :
    Value.res_main_v117 m c = hostResult (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)) := by
  unfold Value.res_main_v117
  rfl

end Cert.ReferenceIdeal.Host

end
-- ==== Proof.lean ====
/- The proof of the certificate's claim: the frames of the three programs, the named constant, and the equality of the two result
   arrays under the precondition, each assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_no_tie
public import proofs.«01_k».proof.Proof.Equation
public import Idealize.ShloMosaic.Adequacy
public import Idealize.ShloMosaic.Init

@[expose] public section

noncomputable section

namespace Cert.Proof

open Idealize.ShloMosaic Idealize.SL.Sem Cert.Kernel

/-! ## The frames -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_no_tie := fun m ρ _ => Cert.KernelIdeal.Gen.frame m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_no_tie := fun m ρ _ => frame_reference m ρ trivial

/-! ## The named constant and the values -/

/-- The printed `-3.0e38` carries the name `neg`, whose value in the idealized kernel is `⊥`. -/
theorem preserves : Cert.preserves_Kernel_KernelIdeal :=
  IdealRules.named_const.statement Cert.KernelIdeal.κ "neg" .f32 0xFF61B1E6#32 ⊥ rfl

/-- Under the precondition both programs end with the same array: the kernel's `final` (Proof/Array.lean) and the reference's
    composed term (Proof/Equation.lean). -/
theorem algebraic : Cert.algebraic_KernelIdeal_ReferenceIdeal_pre_no_tie := by
  intro m ρ m' ρ' hpre hagree
  refine ⟨_, (θ_run Cert.KernelIdeal.defs _ _).mono (fun _ h c => ⟨(h c).1.trans (Cert.KernelIdeal.Block.final m c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Host.res_eq m' c, h0, h1, h2, h3, h4, h5, h6, h7, h8, h9, h10]
  exact Cert.ReferenceIdeal.Host.hostResult_eq _ _ _ _ _ _ _ _ _ _ _ (hpre c)

/-- The certificate's claim. -/
theorem claim : Cert.Claim :=
  ⟨Cert.Kernel.Gen.facts, Cert.KernelIdeal.Gen.facts, Cert.ReferenceIdeal.Gen.facts, Cert.Pre_no_tie.Gen.facts,
    frame_kernel, frame_ideal, frame_ideal_pre, frame_reference, frame_reference_pre, preserves, algebraic⟩

end Cert.Proof

end
